-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x32x32 : Shape := ⟨4, ![8, 512, 32, 32]⟩
abbrev S8x512x32 : Shape := ⟨3, ![8, 512, 32]⟩
abbrev S32x64 : Shape := ⟨2, ![32, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S128x64 : Shape := ⟨2, ![128, 64]⟩
abbrev S131072x32 : Shape := ⟨2, ![131072, 32]⟩
abbrev S64x128 : Shape := ⟨2, ![64, 128]⟩
abbrev S1x64 : Shape := ⟨2, ![1, 64]⟩
abbrev S1x128 : Shape := ⟨2, ![1, 128]⟩
abbrev S4096x64 : Shape := ⟨2, ![4096, 64]⟩
abbrev S16384x32 : Shape := ⟨2, ![16384, 32]⟩
abbrev S1x512x32 : Shape := ⟨3, ![1, 512, 32]⟩
abbrev S512x64 : Shape := ⟨2, ![512, 64]⟩
abbrev S512x32 : Shape := ⟨2, ![512, 32]⟩
abbrev S512x32x1 : Shape := ⟨3, ![512, 32, 1]⟩
abbrev S16384x64 : Shape := ⟨2, ![16384, 64]⟩
abbrev S512x32x64 : Shape := ⟨3, ![512, 32, 64]⟩
abbrev S16384x128 : Shape := ⟨2, ![16384, 128]⟩
abbrev S512x128 : Shape := ⟨2, ![512, 128]⟩
abbrev S512x32x128 : Shape := ⟨3, ![512, 32, 128]⟩
abbrev S512x1x128 : Shape := ⟨3, ![512, 1, 128]⟩
abbrev S512x1 : Shape := ⟨2, ![512, 1]⟩

abbrev nBuf : Space → Nat
  | .hbm => 25
  | .vmem => 19
  | .smem => 0
  | _ => 0

abbrev bufTy : (tb : Table) → Fin (tcTables nBuf tb) → BufTy
  | .hbm, ⟨0, _⟩ => ⟨S8x512x32x32, .f32⟩
  | .hbm, ⟨1, _⟩ => ⟨S8x512x32, .i1⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S131072x32, .f32⟩
  | .hbm, ⟨15, _⟩ => ⟨S64x128, .f32⟩
  | .hbm, ⟨16, _⟩ => ⟨S64x128, .f32⟩
  | .hbm, ⟨17, _⟩ => ⟨S1x64, .f32⟩
  | .hbm, ⟨18, _⟩ => ⟨S1x64, .f32⟩
  | .hbm, ⟨19, _⟩ => ⟨S1x128, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S8x512x32, .i32⟩
  | .hbm, ⟨24, _⟩ => ⟨S4096x64, .f32⟩
  | .local _ .vmem, ⟨0, _⟩ => ⟨S16384x32, .f32⟩
  | .local _ .vmem, ⟨1, _⟩ => ⟨S16384x32, .f32⟩
  | .local _ .vmem, ⟨2, _⟩ => ⟨S1x512x32, .i32⟩
  | .local _ .vmem, ⟨3, _⟩ => ⟨S1x512x32, .i32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S512x64, .f32⟩
  | .local _ .vmem, ⟨18, _⟩ => ⟨S512x64, .f32⟩
  | _, _ => ⟨S8x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x512x32x32 : Shape := ⟨4, ![8, 512, 32, 32]⟩
abbrev S8x512x32 : Shape := ⟨3, ![8, 512, 32]⟩
abbrev S32x64 : Shape := ⟨2, ![32, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S128x64 : Shape := ⟨2, ![128, 64]⟩
abbrev S8x512x32x1 : Shape := ⟨4, ![8, 512, 32, 1]⟩
abbrev S8x512x32x64 : Shape := ⟨4, ![8, 512, 32, 64]⟩
abbrev S1x1x1x64 : Shape := ⟨4, ![1, 1, 1, 64]⟩
abbrev S_ : Shape := ⟨0, ![]⟩
abbrev S8x512x64 : Shape := ⟨3, ![8, 512, 64]⟩
abbrev S8x512x1x64 : Shape := ⟨4, ![8, 512, 1, 64]⟩
abbrev S8x512x32x128 : Shape := ⟨4, ![8, 512, 32, 128]⟩
abbrev S1x1x1x128 : Shape := ⟨4, ![1, 1, 1, 128]⟩
abbrev S8x512 : Shape := ⟨2, ![8, 512]⟩
abbrev S8x512x1 : Shape := ⟨3, ![8, 512, 1]⟩
abbrev S1x1x64 : Shape := ⟨3, ![1, 1, 64]⟩
abbrev S4096x64 : Shape := ⟨2, ![4096, 64]⟩

abbrev nBuf : Space → Nat
  | .hbm => 77
  | .vmem => 0
  | .smem => 0
  | _ => 0

abbrev bufTy : (tb : Table) → Fin (tcTables nBuf tb) → BufTy
  | .hbm, ⟨0, _⟩ => ⟨S8x512x32x32, .f32⟩
  | .hbm, ⟨1, _⟩ => ⟨S8x512x32, .i1⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S8x512x32x1, .i1⟩
  | .hbm, ⟨15, _⟩ => ⟨S8x512x32x1, .f32⟩
  | .hbm, ⟨16, _⟩ => ⟨S8x512x32x64, .f32⟩
  | .hbm, ⟨17, _⟩ => ⟨S1x1x1x64, .f32⟩
  | .hbm, ⟨18, _⟩ => ⟨S8x512x32x64, .f32⟩
  | .hbm, ⟨19, _⟩ => ⟨S8x512x32x64, .f32⟩
  | .hbm, ⟨20, _⟩ => ⟨S_, .f32⟩
  | .hbm, ⟨21, _⟩ => ⟨S8x512x32x64, .f32⟩
  | .hbm, ⟨22, _⟩ => ⟨S8x512x32x64, .f32⟩
  | .hbm, ⟨23, _⟩ => ⟨S8x512x32x64, .f32⟩
  | .hbm, ⟨24, _⟩ => ⟨S1x1x1x64, .f32⟩
  | .hbm, ⟨25, _⟩ => ⟨S8x512x32x64, .f32⟩
  | .hbm, ⟨26, _⟩ => ⟨S8x512x32x64, .f32⟩
  | .hbm, ⟨27, _⟩ => ⟨S_, .f32⟩
  | .hbm, ⟨28, _⟩ => ⟨S8x512x32x64, .f32⟩
  | .hbm, ⟨29, _⟩ => ⟨S8x512x32x64, .f32⟩
  | .hbm, ⟨30, _⟩ => ⟨S8x512x32x64, .f32⟩
  | .hbm, ⟨31, _⟩ => ⟨S8x512x32x64, .f32⟩
  | .hbm, ⟨32, _⟩ => ⟨S_, .f32⟩
  | .hbm, ⟨33, _⟩ => ⟨S8x512x64, .f32⟩
  | .hbm, ⟨34, _⟩ => ⟨S8x512x1x64, .f32⟩
  | .hbm, ⟨35, _⟩ => ⟨S8x512x32x64, .f32⟩
  | .hbm, ⟨36, _⟩ => ⟨S8x512x32x128, .f32⟩
  | .hbm, ⟨37, _⟩ => ⟨S8x512x32x128, .f32⟩
  | .hbm, ⟨38, _⟩ => ⟨S1x1x1x128, .f32⟩
  | .hbm, ⟨39, _⟩ => ⟨S8x512x32x128, .f32⟩
  | .hbm, ⟨40, _⟩ => ⟨S8x512x32x128, .f32⟩
  | .hbm, ⟨41, _⟩ => ⟨S_, .f32⟩
  | .hbm, ⟨42, _⟩ => ⟨S8x512x32x128, .f32⟩
  | .hbm, ⟨43, _⟩ => ⟨S8x512x32x128, .f32⟩
  | .hbm, ⟨44, _⟩ => ⟨S8x512x32x64, .f32⟩
  | .hbm, ⟨45, _⟩ => ⟨S1x1x1x64, .f32⟩
  | .hbm, ⟨46, _⟩ => ⟨S8x512x32x64, .f32⟩
  | .hbm, ⟨47, _⟩ => ⟨S8x512x32x64, .f32⟩
  | .hbm, ⟨48, _⟩ => ⟨S_, .f32⟩
  | .hbm, ⟨49, _⟩ => ⟨S8x512x32x64, .f32⟩
  | .hbm, ⟨50, _⟩ => ⟨S8x512x32x64, .f32⟩
  | .hbm, ⟨51, _⟩ => ⟨S8x512x32x64, .f32⟩
  | .hbm, ⟨52, _⟩ => ⟨S8x512x32x64, .f32⟩
  | .hbm, ⟨53, _⟩ => ⟨S_, .f32⟩
  | .hbm, ⟨54, _⟩ => ⟨S8x512x64, .f32⟩
  | .hbm, ⟨55, _⟩ => ⟨S8x512x32, .i32⟩
  | .hbm, ⟨56, _⟩ => ⟨S_, .i32⟩
  | .hbm, ⟨57, _⟩ => ⟨S8x512, .i32⟩
  | .hbm, ⟨58, _⟩ => ⟨S_, .i32⟩
  | .hbm, ⟨59, _⟩ => ⟨S8x512, .i32⟩
  | .hbm, ⟨60, _⟩ => ⟨S8x512, .i1⟩
  | .hbm, ⟨61, _⟩ => ⟨S8x512, .f32⟩
  | .hbm, ⟨62, _⟩ => ⟨S8x512x1, .f32⟩
  | .hbm, ⟨63, _⟩ => ⟨S8x512x64, .f32⟩
  | .hbm, ⟨64, _⟩ => ⟨S1x1x64, .f32⟩
  | .hbm, ⟨65, _⟩ => ⟨S8x512x64, .f32⟩
  | .hbm, ⟨66, _⟩ => ⟨S8x512x64, .f32⟩
  | .hbm, ⟨67, _⟩ => ⟨S_, .f32⟩
  | .hbm, ⟨68, _⟩ => ⟨S8x512x64, .f32⟩
  | .hbm, ⟨69, _⟩ => ⟨S8x512x64, .f32⟩
  | .hbm, ⟨70, _⟩ => ⟨S8x512x64, .f32⟩
  | .hbm, ⟨71, _⟩ => ⟨S1x1x64, .f32⟩
  | .hbm, ⟨72, _⟩ => ⟨S8x512x64, .f32⟩
  | .hbm, ⟨73, _⟩ => ⟨S8x512x64, .f32⟩
  | .hbm, ⟨74, _⟩ => ⟨S8x512x64, .f32⟩
  | .hbm, ⟨75, _⟩ => ⟨S8x512x64, .f32⟩
  | .hbm, ⟨76, _⟩ => ⟨S4096x64, .f32⟩
  | _, _ => ⟨S8x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_cst : Ref sig .tc := ⟨.hbm, 41, rfl⟩
abbrev main_call2_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call3_cst : Ref sig .tc := ⟨.hbm, 48, rfl⟩
abbrev main_call3_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_0 : Ref sig .tc := ⟨.hbm, 53, rfl⟩
abbrev main_v30 : Ref sig .tc := ⟨.hbm, 54, rfl⟩
abbrev main_v31 : Ref sig .tc := ⟨.hbm, 55, rfl⟩
abbrev main_c : Ref sig .tc := ⟨.hbm, 56, rfl⟩
abbrev main_v32 : Ref sig .tc := ⟨.hbm, 57, rfl⟩
abbrev main_c_1 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call4_cst : Ref sig .tc := ⟨.hbm, 67, rfl⟩
abbrev main_call4_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Proof.Spec.lean ====
module

public import Idealize.ShloMosaic.PureOps.Ideal.Laws

/- The function both programs compute, for one group of 32 points: plain definitions over the extended reals, with no array and
   no program in them. -/

@[expose] public section

noncomputable section

namespace Encoder

/-- The rectifier: the larger of a number and zero. -/
def relu (x : EReal) : EReal := max x 0

/-- A dense layer: the vector `v` times the matrix `W`, plus the bias `b`. -/
def dense {n k : ℕ} (W : Fin n → Fin k → EReal) (b : Fin k → EReal) (v : Fin n → EReal) (j : Fin k) : EReal :=
  (∑ i, v i * W i j) + b j

/-- The largest of finitely many numbers (minus infinity for none). -/
def top {n : ℕ} (f : Fin n → EReal) : EReal := Finset.univ.fold max ⊥ f

/-- A bit as a number, one or zero. -/
def bit (b : BitVec 1) : EReal := if b = 1#1 then 1 else 0

/-- One if some point of the group is present, zero if none is. -/
def valid (M : Fin 32 → BitVec 1) : EReal := if ∃ p, M p = 1#1 then 1 else 0

/-- The weights and biases of the six dense layers. The third layer takes a point's features joined with the group's: `W3a`
    are the rows of its matrix that meet the point's, `W3b` the rows that meet the group's. -/
structure Weights where
  /-- first layer -/
  W1 : Fin 32 → Fin 64 → EReal
  /-- first bias -/
  b1 : Fin 64 → EReal
  /-- second layer -/
  W2 : Fin 64 → Fin 64 → EReal
  /-- second bias -/
  b2 : Fin 64 → EReal
  /-- third layer, the rows for a point's features -/
  W3a : Fin 64 → Fin 128 → EReal
  /-- third layer, the rows for the group's features -/
  W3b : Fin 64 → Fin 128 → EReal
  /-- third bias -/
  b3 : Fin 128 → EReal
  /-- fourth layer -/
  W4 : Fin 128 → Fin 64 → EReal
  /-- fourth bias -/
  b4 : Fin 64 → EReal
  /-- fifth layer -/
  W5 : Fin 64 → Fin 64 → EReal
  /-- fifth bias -/
  b5 : Fin 64 → EReal
  /-- sixth layer -/
  W6 : Fin 64 → Fin 64 → EReal
  /-- sixth bias -/
  b6 : Fin 64 → EReal

variable (w : Weights) (X : Fin 32 → Fin 32 → EReal) (M : Fin 32 → BitVec 1)

/-- A point's features: two dense layers with the rectifier, zeroed when the point is absent. -/
def embed (x : Fin 32 → EReal) (k : BitVec 1) (j : Fin 64) : EReal :=
  relu (dense w.W2 w.b2 (fun i => relu (dense w.W1 w.b1 x i)) j) * bit k

/-- The group's features: the largest over its points. -/
def pooled (j : Fin 64) : EReal := top fun p => embed w (X p) (M p) j

/-- The third layer at a point: its own features joined with the group's. -/
def mixed (p : Fin 32) (j : Fin 128) : EReal :=
  relu ((∑ i, embed w (X p) (M p) i * w.W3a i j) + (∑ i, pooled w X M i * w.W3b i j) + w.b3 j)

/-- A point's features after the fourth layer, zeroed when the point is absent. -/
def refined (p : Fin 32) (j : Fin 64) : EReal := relu (dense w.W4 w.b4 (mixed w X M p) j) * bit (M p)

/-- The group's features after the fourth layer: the largest over its points. -/
def feature (j : Fin 64) : EReal := top fun p => refined w X M p j

/-- The result for one group: two more dense layers, and zero when the group has no point. -/
def encode (j : Fin 64) : EReal :=
  dense w.W6 w.b6 (fun i => relu (dense w.W5 w.b5 (feature w X M) i)) j * valid M

end Encoder
-- ==== Proof.Words.lean ====
module

public import proofs.«01_k».proof.Proof.Spec
public import Idealize.ShloMosaic.PureOps.Ideal.Laws

/- Words and bits: how the two programs turn the presence bits of a group into numbers. -/

@[expose] public section

noncomputable section

namespace Encoder

open Idealize.ShloMosaic

/-- A bit is zero or one. -/
theorem bit_cases (b : BitVec 1) : b = 0#1 ∨ b = 1#1 := by
  revert b; decide

/-- The 32-bit float pattern both programs start a maximum from denotes minus infinity. -/
theorem start_eq_bot : Ideal.ofBits .f32 0xFF800000#32 = ⊥ := by
  simp [Ideal.ofBits, Ideal.ieee]

/-- A bit widened to a word and read as a signed integer is the bit as a number. -/
theorem sitofp_wide (b : BitVec 1) : FloatOps.sitofp (F := Ideal) .f32 (BitVec.setWidth 32 b) = bit b := by
  show (((BitVec.setWidth 32 b).toInt : ℝ) : EReal) = bit b
  rcases bit_cases b with rfl | rfl
  · have h : (BitVec.setWidth 32 (0#1)).toInt = 0 := by decide
    rw [h]; simp [bit]
  · have h : (BitVec.setWidth 32 (1#1)).toInt = 1 := by decide
    rw [h]; simp [bit]

/-- A bit read as an unsigned integer is the bit as a number. -/
theorem uitofp_bit (b : BitVec 1) : FloatOps.uitofp (F := Ideal) .f32 b = bit b := by
  show ((b.toNat : ℝ) : EReal) = bit b
  rcases bit_cases b with rfl | rfl
  · simp [bit]
  · simp [bit]

/-- A bit widened to a word differs from zero exactly when it is set. -/
theorem wide_ne_zero (b : BitVec 1) : IntOp.cmpi .ne (BitVec.setWidth 32 b) 0#32 = b := by
  revert b; decide

/-- The largest of the presence bits tells whether the group has a point. -/
theorem top_bit (M : Fin 32 → BitVec 1) : top (fun p => bit (M p)) = valid M := by
  unfold top valid
  apply le_antisymm
  · rw [Finset.fold_max_le]
    refine ⟨bot_le, fun p _ => ?_⟩
    unfold bit
    by_cases h : M p = 1#1
    · rw [if_pos h, if_pos ⟨p, h⟩]
    · rw [if_neg h]; split_ifs <;> simp
  · rw [Finset.le_fold_max]
    right
    by_cases h : ∃ p, M p = 1#1
    · obtain ⟨p, hp⟩ := h
      refine ⟨p, Finset.mem_univ _, ?_⟩
      rw [if_pos ⟨p, hp⟩, bit, if_pos hp]
    · refine ⟨0, Finset.mem_univ _, ?_⟩
      rw [if_neg h]; unfold bit; split_ifs <;> simp

/-- Adding up the widened bits of some points gives the number of those present: 32 bits cannot overflow a word. -/
theorem count_toNat (M : Fin 32 → BitVec 1) (s : Finset (Fin 32)) :
    (s.fold IntOp.addi (0#32) fun p => BitVec.setWidth 32 (M p)).toNat = (s.filter fun p => M p = 1#1).card := by
  induction s using Finset.induction_on with
  | empty => rfl
  | insert a s ha ih =>
    rw [Finset.fold_insert ha, Finset.filter_insert]
    have hs : (s.filter fun p => M p = 1#1).card ≤ 32 :=
      (Finset.card_le_univ _).trans (by simp)
    show (BitVec.setWidth 32 (M a) + _).toNat = _
    rw [BitVec.toNat_add, ih]
    rcases bit_cases (M a) with h | h
    · rw [h, if_neg (by decide)]
      show (0 + _) % 2 ^ 32 = _
      omega
    · rw [h, if_pos rfl, Finset.card_insert_of_notMem (by simp [ha])]
      show (1 + _) % 2 ^ 32 = _
      omega

/-- A word below 2³¹ is signed-greater than zero exactly when it is not zero. -/
theorem sgt_zero (x : BitVec 32) (h : x.toNat ≤ 32) : IntOp.cmpi .sgt x 0#32 = if 0 < x.toNat then 1#1 else 0#1 := by
  have hi : x.toInt = x.toNat := by rw [BitVec.toInt_eq_toNat_cond, if_pos (by omega)]
  show BitVec.ofBool (BitVec.slt 0#32 x) = _
  rw [BitVec.slt_eq_decide, hi]
  by_cases hx : 0 < x.toNat
  · rw [if_pos hx, decide_eq_true (by simpa using hx)]; rfl
  · rw [if_neg hx, decide_eq_false (by simpa using hx)]; rfl

/-- "The number of points present is positive", as a number, tells whether the group has a point. -/
theorem count_valid (M : Fin 32 → BitVec 1) :
    FloatOps.uitofp (F := Ideal) .f32 (IntOp.cmpi .sgt
      (Finset.univ.fold IntOp.addi (0#32) fun p => BitVec.setWidth 32 (M p)) 0#32) = valid M := by
  have hc := count_toNat M Finset.univ
  have hs : (Finset.univ.filter fun p => M p = 1#1).card ≤ 32 := (Finset.card_le_univ _).trans (by simp)
  rw [uitofp_bit, sgt_zero _ (hc ▸ hs), hc]
  unfold valid bit
  by_cases h : ∃ p, M p = 1#1
  · obtain ⟨p, hp⟩ := h
    rw [if_pos (Finset.card_pos.mpr ⟨p, by simp [hp]⟩), if_pos rfl, if_pos ⟨p, hp⟩]
  · have hn : ¬ 0 < (Finset.univ.filter fun p => M p = 1#1).card := by
      rw [Finset.card_pos]
      rintro ⟨p, hp⟩
      exact h ⟨p, by simpa using hp⟩
    rw [if_neg h, if_neg hn, if_neg (by decide)]

end Encoder
-- ==== Proof.Block.lean ====
module

public import proofs.«01_k».proof.Proof.Words
public import proofs.«01_k».proof.Proof.Gen.KernelIdeal.Skeleton
public import Idealize.ShloMosaic.Lib.Pointwise

/- What one block of the kernel computes: the stored values, read at an entry of the block, are the encoder of the group that
   entry belongs to. -/

@[expose] public section

set_option maxRecDepth 16384

noncomputable section

namespace Cert.KernelIdeal.Block

open Cert.KernelIdeal Cert.KernelIdeal.Gen Idealize.ShloMosaic Idealize.SL.Sem Encoder

variable (P0 : Vec Ideal S1x512x32 .i32) (P1 : Vec Ideal S16384x32 .f32) (P2 : Vec Ideal S32x64 .f32) (P3 : Vec Ideal S1x64 .f32)
  (P4 : Vec Ideal S64x64 .f32) (P5 : Vec Ideal S1x64 .f32) (P6 : Vec Ideal S64x128 .f32) (P7 : Vec Ideal S64x128 .f32)
  (P8 : Vec Ideal S1x128 .f32) (P9 : Vec Ideal S128x64 .f32) (P10 : Vec Ideal S1x64 .f32) (P11 : Vec Ideal S64x64 .f32)
  (P12 : Vec Ideal S1x64 .f32) (P13 : Vec Ideal S64x64 .f32) (P14 : Vec Ideal S1x64 .f32)

/-- The weights as the block holds them: biases are rows of height one, the third matrix comes in two halves. -/
def weights : Weights where
  W1 k j := P2 (ix2 k j)
  b1 j := P3 (ix2 0 j)
  W2 k j := P4 (ix2 k j)
  b2 j := P5 (ix2 0 j)
  W3a k j := P6 (ix2 k j)
  W3b k j := P7 (ix2 k j)
  b3 j := P8 (ix2 0 j)
  W4 k j := P9 (ix2 k j)
  b4 j := P10 (ix2 0 j)
  W5 k j := P11 (ix2 k j)
  b5 j := P12 (ix2 0 j)
  W6 k j := P13 (ix2 k j)
  b6 j := P14 (ix2 0 j)

/-- The points of group `r` of the block: 32 consecutive rows. -/
def points (r : Fin 512) (p k : Fin 32) : EReal := P1 (ix2 ⟨r.val * 32 + p.val, by omega⟩ k)

/-- The presence bits of group `r` of the block: a word that is not zero marks a point. -/
def present (r : Fin 512) (p : Fin 32) : BitVec 1 := IntOp.cmpi .ne (P0 (ix3 0 r p)) 0#32

/-- The mask the block multiplies by is the presence bit as a number. -/
theorem mask_at (r : Fin 512) (p : Fin 32) : k0_pay2 P0 (ix3 r p 0) = bit (present P0 r p) := by
  pointwise [k0_pay2]
  exact sitofp_wide _

/-- The features of point `p` of group `r`. -/
theorem embed_at (r : Fin 512) (p : Fin 32) (j : Fin 64) :
    k0_pay3 P1 P0 P2 P3 P4 P5 (ix3 r p j)
      = embed (weights P2 P3 P4 P5 P6 P7 P8 P9 P10 P11 P12 P13 P14) (points P1 r p) (present P0 r p) j := by
  pointwise [k0_pay3]
  rw [mask_at]
  rfl

/-- The features of group `r`: the largest over its points. -/
theorem pooled_at (r : Fin 512) (j : Fin 64) :
    k0_pay4 P1 P0 P2 P3 P4 P5 (ix2 r j)
      = pooled (weights P2 P3 P4 P5 P6 P7 P8 P9 P10 P11 P12 P13 P14) (points P1 r) (present P0 r) j := by
  pointwise [k0_pay4]
  rw [start_eq_bot]
  simp only [embed_at P0 P1 P2 P3 P4 P5 P6 P7 P8 P9 P10 P11 P12 P13 P14]
  rfl

/-- The part of the third layer that meets a point's own features, at the row of point `p` of group `r`. -/
theorem own_at (r : Fin 512) (p : Fin 32) (j : Fin 128) :
    k0_pay5 P1 P0 P2 P3 P4 P5 P6 (ix2 ⟨r.val * 32 + p.val, by omega⟩ j)
      = ∑ i, embed (weights P2 P3 P4 P5 P6 P7 P8 P9 P10 P11 P12 P13 P14) (points P1 r p) (present P0 r p) i * P6 (ix2 i j) := by
  have hr : (⟨(r.val * 32 + p.val) / 32, by omega⟩ : Fin 512) = r := Fin.ext (by show (r.val * 32 + p.val) / 32 = r.val; omega)
  have hp : (⟨(r.val * 32 + p.val) % 32, by omega⟩ : Fin 32) = p := Fin.ext (by show (r.val * 32 + p.val) % 32 = p.val; omega)
  pointwise [k0_pay5]
  simp only [hr, hp, embed_at P0 P1 P2 P3 P4 P5 P6 P7 P8 P9 P10 P11 P12 P13 P14]

/-- Whether group `r` has a point: the largest of its mask values. -/
theorem valid_at (r : Fin 512) : k0_pay7 (k0_pay2 P0) (ix2 r 0) = valid (present P0 r) := by
  pointwise [k0_pay7]
  rw [start_eq_bot]
  simp only [mask_at]
  exact top_bit _

/-- The fifth and sixth layers over the group's features after the fourth, without the last bias: the block adds the group's
    part of the third layer to the bias first, and the sum is the same. -/
theorem head_at (r : Fin 512) (j : Fin 64) :
    k0_pay8 (k0_pay2 P0) (k0_pay4 P1 P0 P2 P3 P4 P5) (k0_pay5 P1 P0 P2 P3 P4 P5 P6) (k0_pay6 P7)
        (constant S512x128 .f32 0x00000000#32) P8 P9 P10 P11 P12 P13 (ix2 r j)
      = ∑ x, relu (dense (fun k i => P11 (ix2 k i)) (fun i => P12 (ix2 0 i))
          (feature (weights P2 P3 P4 P5 P6 P7 P8 P9 P10 P11 P12 P13 P14) (points P1 r) (present P0 r)) x) * P13 (ix2 x j) := by
  pointwise [k0_pay8, k0_pay6]
  rw [start_eq_bot]
  simp only [mask_at, pooled_at P0 P1 P2 P3 P4 P5 P6 P7 P8 P9 P10 P11 P12 P13 P14,
    own_at P0 P1 P2 P3 P4 P5 P6 P7 P8 P9 P10 P11 P12 P13 P14, ← add_assoc]
  rfl

/-- What the block stores at entry `(r, j)` is the encoder's value `j` for group `r`. -/
theorem stored_at (r : Fin 512) (j : Fin 64) :
    k0_pay1 (k0_pay7 (k0_pay2 P0)) (k0_pay8 (k0_pay2 P0) (k0_pay4 P1 P0 P2 P3 P4 P5) (k0_pay5 P1 P0 P2 P3 P4 P5 P6)
        (k0_pay6 P7) (constant S512x128 .f32 0x00000000#32) P8 P9 P10 P11 P12 P13) (k0_pay9 P14) (ix2 r j)
      = encode (weights P2 P3 P4 P5 P6 P7 P8 P9 P10 P11 P12 P13 P14) (points P1 r) (present P0 r) j := by
  pointwise [k0_pay1, k0_pay9]
  rw [valid_at, head_at]
  rfl

end Cert.KernelIdeal.Block
-- ==== Proof.Result.lean ====
module

public import proofs.«01_k».proof.Proof.Spec
public import Idealize.ShloMosaic.Lib.Pointwise

/- The array both programs end with, written from the argument arrays: row `512 b + r` is the encoder of group `r` of
   batch entry `b`. -/

@[expose] public section

set_option maxRecDepth 16384

noncomputable section

namespace Encoder

open Idealize.ShloMosaic

variable (x0 : FVec Ideal ⟨4, ![8, 512, 32, 32]⟩ .f32) (x1 : IVec ⟨3, ![8, 512, 32]⟩ 1) (x2 : FVec Ideal ⟨2, ![32, 64]⟩ .f32)
  (x3 : FVec Ideal ⟨1, ![64]⟩ .f32) (x4 : FVec Ideal ⟨2, ![64, 64]⟩ .f32) (x5 : FVec Ideal ⟨1, ![64]⟩ .f32)
  (x6 : FVec Ideal ⟨2, ![128, 128]⟩ .f32) (x7 : FVec Ideal ⟨1, ![128]⟩ .f32) (x8 : FVec Ideal ⟨2, ![128, 64]⟩ .f32)
  (x9 : FVec Ideal ⟨1, ![64]⟩ .f32) (x10 : FVec Ideal ⟨2, ![64, 64]⟩ .f32) (x11 : FVec Ideal ⟨1, ![64]⟩ .f32)
  (x12 : FVec Ideal ⟨2, ![64, 64]⟩ .f32) (x13 : FVec Ideal ⟨1, ![64]⟩ .f32)

/-- The weights from the argument arrays: the third matrix cut after its first 64 rows. -/
def weightsOf : Weights where
  W1 k j := x2 (ix2 k j)
  b1 j := x3 (ix1 j)
  W2 k j := x4 (ix2 k j)
  b2 j := x5 (ix1 j)
  W3a k j := x6 (ix2 ⟨k.val, by omega⟩ j)
  W3b k j := x6 (ix2 ⟨64 + k.val, by omega⟩ j)
  b3 j := x7 (ix1 j)
  W4 k j := x8 (ix2 k j)
  b4 j := x9 (ix1 j)
  W5 k j := x10 (ix2 k j)
  b5 j := x11 (ix1 j)
  W6 k j := x12 (ix2 k j)
  b6 j := x13 (ix1 j)

/-- The points of group `r` of batch entry `b`. -/
def pointsOf (b : Fin 8) (r : Fin 512) (p k : Fin 32) : EReal := x0 (ix4 b r p k)

/-- The presence bits of group `r` of batch entry `b`. -/
def presentOf (b : Fin 8) (r : Fin 512) (p : Fin 32) : BitVec 1 := x1 (ix3 b r p)

/-- The batch entry that row `g` of the result belongs to. -/
def batchOf (g : Fin 4096) : Fin 8 := ⟨g.val / 512, by omega⟩

/-- The group within its batch entry that row `g` of the result belongs to. -/
def groupOf (g : Fin 4096) : Fin 512 := ⟨g.val % 512, by omega⟩

/-- Entry `(g, j)` of the result: the encoder's value `j` for the group of row `g`. -/
def resultAt (g : Fin 4096) (j : Fin 64) : EReal :=
  encode (weightsOf x2 x3 x4 x5 x6 x7 x8 x9 x10 x11 x12 x13) (pointsOf x0 (batchOf g) (groupOf g))
    (presentOf x1 (batchOf g) (groupOf g)) j

/-- The result array. -/
def result : FVec Ideal ⟨2, ![4096, 64]⟩ .f32 := fun i =>
  resultAt x0 x1 x2 x3 x4 x5 x6 x7 x8 x9 x10 x11 x12 x13 (i 0) (i 1)

end Encoder
-- ==== Proof.Reads.lean ====
module

public import proofs.«01_k».proof.Proof.Block
public import proofs.«01_k».proof.Proof.Result
public import proofs.«01_k».proof.Proof.Gen.KernelIdeal.Frame
public import Idealize.ShloMosaic.Lib.Pipeline.ValueKit
public import Idealize.ShloMosaic.Lib.Claim

/- What the kernel's input blocks hold, read from the argument arrays. -/

@[expose] public section

set_option maxRecDepth 16384

noncomputable section

open Idealize.ShloMosaic Idealize.ShloMosaic.TcCoe Idealize.SL.Sem
open Idealize.ShloMosaic.Pipeline (Dat)

namespace Cert.KernelIdeal.Reads

open Cert.KernelIdeal Cert.KernelIdeal.Gen Encoder

variable (m : (ℓ : Loc nD τ sig) → Buf (Elt Ideal) ℓ)

/-- Where each window's block sits: the points, the presence words and the result move with the grid point, everything else is
    one block at the origin. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, _)

/-- The grid has one point per batch entry. -/
theorem lt8 (t : Fin cfg0.N) : t.val < 8 := by
  have h : cfg0.N = 8 := N_0
  omega

variable (c : Dev nD) (t : Fin cfg0.N)

/-- The first matrix. -/
theorem w1_read (k : Fin 32) (j : Fin 64) :
    (show FVec Ideal S32x64 .f32 from iblk m c 2 t) (ix2 k j) = (m ((c : Thread nD τ).loc main_arg2) : FVec Ideal S32x64 .f32) (ix2 k j) := by
  blk_ext [iblk, V, idx t]

/-- The first bias. -/
theorem b1_read (j : Fin 64) :
    (show FVec Ideal S1x64 .f32 from iblk m c 3 t) (ix2 0 j) = (m ((c : Thread nD τ).loc main_arg3) : FVec Ideal S64 .f32) (ix1 j) := by
  blk_point [iblk, V, idx t]

/-- The second matrix. -/
theorem w2_read (k : Fin 64) (j : Fin 64) :
    (show FVec Ideal S64x64 .f32 from iblk m c 4 t) (ix2 k j)
      = (m ((c : Thread nD τ).loc main_arg4) : FVec Ideal S64x64 .f32) (ix2 k j) := by
  blk_ext [iblk, V, idx t]

/-- The fourth matrix. -/
theorem w4_read (k : Fin 128) (j : Fin 64) :
    (show FVec Ideal S128x64 .f32 from iblk m c 9 t) (ix2 k j)
      = (m ((c : Thread nD τ).loc main_arg8) : FVec Ideal S128x64 .f32) (ix2 k j) := by
  blk_ext [iblk, V, idx t]

/-- The fifth matrix. -/
theorem w5_read (k : Fin 64) (j : Fin 64) :
    (show FVec Ideal S64x64 .f32 from iblk m c 11 t) (ix2 k j)
      = (m ((c : Thread nD τ).loc main_arg10) : FVec Ideal S64x64 .f32) (ix2 k j) := by
  blk_ext [iblk, V, idx t]

/-- The sixth matrix. -/
theorem w6_read (k : Fin 64) (j : Fin 64) :
    (show FVec Ideal S64x64 .f32 from iblk m c 13 t) (ix2 k j)
      = (m ((c : Thread nD τ).loc main_arg12) : FVec Ideal S64x64 .f32) (ix2 k j) := by
  blk_ext [iblk, V, idx t]

/-- The second bias. -/
theorem b2_read (j : Fin 64) :
    (show FVec Ideal S1x64 .f32 from iblk m c 5 t) (ix2 0 j)
      = (m ((c : Thread nD τ).loc main_arg5) : FVec Ideal S64 .f32) (ix1 j) := by
  blk_point [iblk, V, idx t]

/-- The third bias. -/
theorem b3_read (j : Fin 128) :
    (show FVec Ideal S1x128 .f32 from iblk m c 8 t) (ix2 0 j)
      = (m ((c : Thread nD τ).loc main_arg7) : FVec Ideal S128 .f32) (ix1 j) := by
  blk_point [iblk, V, idx t]

/-- The fourth bias. -/
theorem b4_read (j : Fin 64) :
    (show FVec Ideal S1x64 .f32 from iblk m c 10 t) (ix2 0 j)
      = (m ((c : Thread nD τ).loc main_arg9) : FVec Ideal S64 .f32) (ix1 j) := by
  blk_point [iblk, V, idx t]

/-- The fifth bias. -/
theorem b5_read (j : Fin 64) :
    (show FVec Ideal S1x64 .f32 from iblk m c 12 t) (ix2 0 j)
      = (m ((c : Thread nD τ).loc main_arg11) : FVec Ideal S64 .f32) (ix1 j) := by
  blk_point [iblk, V, idx t]

/-- The sixth bias. -/
theorem b6_read (j : Fin 64) :
    (show FVec Ideal S1x64 .f32 from iblk m c 14 t) (ix2 0 j)
      = (m ((c : Thread nD τ).loc main_arg13) : FVec Ideal S64 .f32) (ix1 j) := by
  blk_point [iblk, V, idx t]

/-- Before the grid starts the host has cut the third matrix: its upper half. -/
theorem w3a_entry : V m c main_call0_v1
    = extractStridedSlice S64x128 ![0, 0] (m ((c : Thread nD τ).loc main_arg6) : FVec Ideal S128x128 .f32)
        slices_S128x128_S64x128_0_0 := by
  entry_read
  rfl

/-- Before the grid starts the host has cut the third matrix: its lower half. -/
theorem w3b_entry : V m c main_call0_v2
    = extractStridedSlice S64x128 ![64, 0] (m ((c : Thread nD τ).loc main_arg6) : FVec Ideal S128x128 .f32)
        slices_S128x128_S64x128_64_0 := by
  entry_read
  rfl

/-- Before the grid starts the host has widened the presence bits to words. -/
theorem m_entry : V m c main_call0_v9
    = extui 32 (m ((c : Thread nD τ).loc main_arg1) : IVec S8x512x32 1) natLt_1_32 := by
  entry_read
  rfl

/-- The upper half of the third matrix. -/
theorem w3a_read (k : Fin 64) (j : Fin 128) :
    (show FVec Ideal S64x128 .f32 from iblk m c 6 t) (ix2 k j)
      = (m ((c : Thread nD τ).loc main_arg6) : FVec Ideal S128x128 .f32) (ix2 ⟨k.val, by omega⟩ j) := by
  blk_simp [iblk, idx t]
  rw [w3a_entry]
  pointwise
  blk_ext [idx t]

/-- The lower half of the third matrix. -/
theorem w3b_read (k : Fin 64) (j : Fin 128) :
    (show FVec Ideal S64x128 .f32 from iblk m c 7 t) (ix2 k j)
      = (m ((c : Thread nD τ).loc main_arg6) : FVec Ideal S128x128 .f32) (ix2 ⟨64 + k.val, by omega⟩ j) := by
  blk_simp [iblk, idx t]
  rw [w3b_entry]
  pointwise
  blk_ext [idx t]

/-- The points of the block. -/
theorem x_read (r : Fin 512) (p k : Fin 32) :
    (show FVec Ideal S16384x32 .f32 from iblk m c 0 t) (ix2 ⟨r.val * 32 + p.val, by omega⟩ k)
      = (m ((c : Thread nD τ).loc main_arg0) : FVec Ideal S8x512x32x32 .f32) (ix4 ⟨t.val, lt8 t⟩ r p k) := by
  blk_simp [iblk, idx t]
  entry_read
  pointwise
  blk_ext [idx t]

/-- The presence words of the block. -/
theorem m_read (r : Fin 512) (p : Fin 32) :
    (show IVec S1x512x32 32 from iblk m c 1 t) (ix3 0 r p)
      = BitVec.setWidth 32 ((m ((c : Thread nD τ).loc main_arg1) : IVec S8x512x32 1) (ix3 ⟨t.val, lt8 t⟩ r p)) := by
  blk_simp [iblk, idx t]
  rw [m_entry]
  pointwise
  congr 1
  blk_ext [idx t]

end Cert.KernelIdeal.Reads
-- ==== Proof.Final.lean ====
module

public import proofs.«01_k».proof.Proof.Reads

/- What the kernel's result array holds after the run: block `t` is written once, at grid point `t`, and its entry `(r, j)` is the
   encoder's value `j` for group `r` of batch entry `t`. -/

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Block Cert.KernelIdeal.Reads Encoder

variable (m : (ℓ : Loc nD τ sig) → Buf (Elt Ideal) ℓ) (c : Dev nD) (t : Fin cfg0.N)

/-- The weights in the blocks of a grid point are those of the argument arrays. -/
theorem weights_eq :
    weights (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)
      (iblk m c 14 t)
      = weightsOf (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  unfold weights weightsOf
  rw [Weights.mk.injEq]
  exact ⟨funext₂ (w1_read m c t), funext (b1_read m c t), funext₂ (w2_read m c t), funext (b2_read m c t),
    funext₂ (w3a_read m c t), funext₂ (w3b_read m c t), funext (b3_read m c t), funext₂ (w4_read m c t), funext (b4_read m c t),
    funext₂ (w5_read m c t), funext (b5_read m c t), funext₂ (w6_read m c t), funext (b6_read m c t)⟩

/-- The points of group `r` of the block of grid point `t` are those of group `r` of batch entry `t`. -/
theorem points_eq (r : Fin 512) :
    points (iblk m c 0 t) r = pointsOf (m ((c : Thread nD τ).loc main_arg0)) ⟨t.val, lt8 t⟩ r :=
  funext₂ (x_read m c t r)

/-- The presence bits of group `r` of the block of grid point `t` are those of group `r` of batch entry `t`. -/
theorem present_eq (r : Fin 512) :
    present (iblk m c 1 t) r = presentOf (m ((c : Thread nD τ).loc main_arg1)) ⟨t.val, lt8 t⟩ r :=
  funext fun p => (congrArg (fun w => IntOp.cmpi .ne w 0#32) (m_read m c t r p)).trans (wide_ne_zero _)

/-- What a grid point leaves in its result buffer, for any contents of its input blocks: at entry `(r, j)`, the encoder's value
    `j` for the block's group `r`. -/
theorem left_at (P0 : Vec Ideal S1x512x32 .i32) (P1 : Vec Ideal S16384x32 .f32) (P2 : Vec Ideal S32x64 .f32)
    (P3 : Vec Ideal S1x64 .f32) (P4 : Vec Ideal S64x64 .f32) (P5 : Vec Ideal S1x64 .f32) (P6 : Vec Ideal S64x128 .f32)
    (P7 : Vec Ideal S64x128 .f32) (P8 : Vec Ideal S1x128 .f32) (P9 : Vec Ideal S128x64 .f32) (P10 : Vec Ideal S1x64 .f32)
    (P11 : Vec Ideal S64x64 .f32) (P12 : Vec Ideal S1x64 .f32) (P13 : Vec Ideal S64x64 .f32) (P14 : Vec Ideal S1x64 .f32)
    (r : Fin 512) (j : Fin 64) :
    out0_15 P1 P0 P2 P3 P4 P5 P6 P7 P8 P9 P10 P11 P12 P13 P14 (ix2 r j)
      = encode (weights P2 P3 P4 P5 P6 P7 P8 P9 P10 P11 P12 P13 P14) (points P1 r) (present P0 r) j := by
  refine Eq.trans ?_ (stored_at P0 P1 P2 P3 P4 P5 P6 P7 P8 P9 P10 P11 P12 P13 P14 r j)
  have hz : (![0, 0, 0] : Fin 3 → Nat) = fun _ => 0 := by decide
  have hm : k0_pay10 P1 P0 P2 P3 P4 P5 P6 P7 P8 P9 P10 P11 P12 P13 P14 = k0_pay2 P0 := by
    unfold k0_pay10
    rw [View.ld_unit_zero (S := S1x512x32) hz]
  frame_out
  rw [hm]

/-- What grid point `t` stores at entry `(r, j)` of its block is the result's entry `(512 t + r, j)`. -/
theorem point (r : Fin 512) (j : Fin 64) :
    (out0_15 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
      (iblk m c 12 t) (iblk m c 13 t) (iblk m c 14 t) : FVec Ideal S512x64 .f32) (ix2 r j)
      = resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13))
          ⟨t.val * 512 + r.val, by have := lt8 t; omega⟩ j := by
  have hb : batchOf ⟨t.val * 512 + r.val, by have := lt8 t; omega⟩ = ⟨t.val, lt8 t⟩ :=
    Fin.ext (by show (t.val * 512 + r.val) / 512 = t.val; omega)
  have hg : groupOf ⟨t.val * 512 + r.val, by have := lt8 t; omega⟩ = r :=
    Fin.ext (by show (t.val * 512 + r.val) % 512 = r.val; omega)
  refine (left_at _ _ _ _ _ _ _ _ _ _ _ _ _ _ _ r j).trans ?_
  unfold resultAt
  rw [hb, hg, weights_eq m c t, points_eq m c t, present_eq m c t]

/-- Entry `(r, j)` of result block `t` is entry `(512 t + r, j)` of the result array. -/
theorem emb_at (r : Fin 512) (j : Fin 64) :
    ((win0_15.blk t).view.emb (ix2 r j) : S4096x64.Idx) = ix2 ⟨t.val * 512 + r.val, by have := lt8 t; omega⟩ j := by
  blk_ext [idx t]

/-- What grid point `t` leaves in its result buffer, at any entry: `Encoder.result` at that entry's place in the array. -/
theorem block_at (y : S512x64.Idx) :
    out0_15 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) y
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) ((win0_15.blk t).view.emb y) := by
  obtain ⟨r, j, rfl⟩ : ∃ (r : Fin 512) (j : Fin 64), y = ix2 r j := ⟨y 0, y 1, by
    funext d
    match d with
    | ⟨0, _⟩ => rfl
    | ⟨1, _⟩ => rfl⟩
  rw [emb_at t r j]
  exact point m c t r j

/-- The result array after the run is `Encoder.result` of the argument arrays. -/
theorem final : (dats m 0 c).arrAt 15 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (dats m 0 c).arrAt_eq_of_covers 15 _ (by decide +kernel) fun t _ y => ?_
  blk_simp
  rw [after0_15]
  exact block_at m c t y

end Cert.KernelIdeal.Final
-- ==== Proof.Stages.lean ====
module

public import proofs.«01_k».proof.Proof.Words
public import proofs.«01_k».proof.Proof.Result
public import proofs.«01_k».proof.Proof.Gen.ReferenceIdeal.Read

/- What the reference computes, stage by stage, up to the group's features and its validity. -/

@[expose] public section

set_option maxRecDepth 16384

noncomputable section

namespace Cert.ReferenceIdeal.Stages

open Cert.ReferenceIdeal Cert.ReferenceIdeal.Gen Cert.ReferenceIdeal.Read Idealize.ShloMosaic Idealize.SL.Sem Encoder

variable (x0 : (⟨S8x512x32x32, .f32⟩ : BufTy).Contents (Elt Ideal)) (x1 : (⟨S8x512x32, .i1⟩ : BufTy).Contents (Elt Ideal)) (x2 :
  (⟨S32x64, .f32⟩ : BufTy).Contents (Elt Ideal)) (x3 : (⟨S64, .f32⟩ : BufTy).Contents (Elt Ideal)) (x4 : (⟨S64x64, .f32⟩ : BufTy).Contents (Elt Ideal)) (x5 :
  (⟨S64, .f32⟩ : BufTy).Contents (Elt Ideal)) (x6 : (⟨S128x128, .f32⟩ : BufTy).Contents (Elt Ideal)) (x7 : (⟨S128, .f32⟩ : BufTy).Contents (Elt Ideal)) (x8 :
  (⟨S128x64, .f32⟩ : BufTy).Contents (Elt Ideal)) (x9 : (⟨S64, .f32⟩ : BufTy).Contents (Elt Ideal)) (x10 : (⟨S64x64, .f32⟩ : BufTy).Contents (Elt Ideal)) (x11 :
  (⟨S64, .f32⟩ : BufTy).Contents (Elt Ideal)) (x12 : (⟨S64x64, .f32⟩ : BufTy).Contents (Elt Ideal)) (x13 : (⟨S64, .f32⟩ : BufTy).Contents (Elt Ideal))

/-- The mask is the presence bit as a number. -/
theorem mask_at (b : Fin 8) (r : Fin 512) (p : Fin 32) :
    val_main_v1 (F := Ideal) x1 (ix4 b r p 0) = bit (presentOf x1 b r p) := by
  pointwise [val_main_v1, val_main_v0]
  exact uitofp_bit _

/-- The features of point `p` of group `r` of batch entry `b`. -/
theorem embed_at (b : Fin 8) (r : Fin 512) (p : Fin 32) (j : Fin 64) :
    val_main_v13 (F := Ideal) x0 x1 x2 x3 x4 x5 (ix4 b r p j)
      = embed (weightsOf x2 x3 x4 x5 x6 x7 x8 x9 x10 x11 x12 x13) (pointsOf x0 b r p) (presentOf x1 b r p) j := by
  pointwise [val_main_v13, val_main_v12, val_main_v11, val_main_call1_v0, val_main_call1_cst, val_main_v10,
    val_main_v9, val_main_v8, val_main_v7, val_main_v6, val_main_call0_v0, val_main_call0_cst, val_main_v5,
    val_main_v4, val_main_v3, val_main_v2]
  rw [mask_at]
  rfl

/-- The features of a group: the largest over its points. -/
theorem pooled_at (b : Fin 8) (r : Fin 512) (j : Fin 64) :
    val_main_v14 (F := Ideal) x0 x1 x2 x3 x4 x5 (ix3 b r j)
      = pooled (weightsOf x2 x3 x4 x5 x6 x7 x8 x9 x10 x11 x12 x13) (pointsOf x0 b r) (presentOf x1 b r) j := by
  pointwise [val_main_v14, val_main_cst]
  rw [start_eq_bot]
  simp only [embed_at x0 x1 x2 x3 x4 x5 x6 x7 x8 x9 x10 x11 x12 x13]
  rfl

/-- The third layer: the joined vector times the whole matrix is the sum of the two halves' products. -/
theorem mixed_at (b : Fin 8) (r : Fin 512) (p : Fin 32) (j : Fin 128) :
    val_main_v22 (F := Ideal) x0 x1 x2 x3 x4 x5 x6 x7 (ix4 b r p j)
      = mixed (weightsOf x2 x3 x4 x5 x6 x7 x8 x9 x10 x11 x12 x13) (pointsOf x0 b r) (presentOf x1 b r) p j := by
  pointwise [val_main_v22, val_main_call2_v0, val_main_call2_cst, val_main_v21, val_main_v20, val_main_v19,
    val_main_v18, val_main_v17, val_main_v16, val_main_v15]
  simp only [embed_at x0 x1 x2 x3 x4 x5 x6 x7 x8 x9 x10 x11 x12 x13,
    pooled_at x0 x1 x2 x3 x4 x5 x6 x7 x8 x9 x10 x11 x12 x13]
  rfl

/-- The features of a point after the fourth layer. -/
theorem refined_at (b : Fin 8) (r : Fin 512) (p : Fin 32) (j : Fin 64) :
    val_main_v29 (F := Ideal) x0 x1 x2 x3 x4 x5 x6 x7 x8 x9 (ix4 b r p j)
      = refined (weightsOf x2 x3 x4 x5 x6 x7 x8 x9 x10 x11 x12 x13) (pointsOf x0 b r) (presentOf x1 b r) p j := by
  pointwise [val_main_v29, val_main_v28, val_main_v27, val_main_call3_v0, val_main_call3_cst, val_main_v26,
    val_main_v25, val_main_v24, val_main_v23]
  simp only [mask_at, mixed_at x0 x1 x2 x3 x4 x5 x6 x7 x8 x9 x10 x11 x12 x13]
  rfl

/-- The features of a group after the fourth layer: the largest over its points. -/
theorem feature_at (b : Fin 8) (r : Fin 512) (j : Fin 64) :
    val_main_v30 (F := Ideal) x0 x1 x2 x3 x4 x5 x6 x7 x8 x9 (ix3 b r j)
      = feature (weightsOf x2 x3 x4 x5 x6 x7 x8 x9 x10 x11 x12 x13) (pointsOf x0 b r) (presentOf x1 b r) j := by
  pointwise [val_main_v30, val_main_cst_0]
  rw [start_eq_bot]
  simp only [refined_at x0 x1 x2 x3 x4 x5 x6 x7 x8 x9 x10 x11 x12 x13]
  rfl

/-- Whether a group has a point: the reference counts its presence bits and compares with zero. -/
theorem valid_at (b : Fin 8) (r : Fin 512) :
    val_main_v36 (F := Ideal) x1 (ix3 b r 0) = valid (presentOf x1 b r) := by
  pointwise [val_main_v36, val_main_v35, val_main_v34, val_main_v33, val_main_c_1, val_main_v32, val_main_v31,
    val_main_c]
  exact count_valid _

end Cert.ReferenceIdeal.Stages
-- ==== Proof.Returned.lean ====
module

public import proofs.«01_k».proof.Proof.Stages

/- What the reference returns: its last two layers, and its result array, which is `Encoder.result` of its arguments. -/

@[expose] public section

set_option maxRecDepth 16384

noncomputable section

namespace Cert.ReferenceIdeal.Stages

open Cert.ReferenceIdeal Cert.ReferenceIdeal.Gen Cert.ReferenceIdeal.Read Idealize.ShloMosaic Idealize.SL.Sem Encoder

variable (x0 : (⟨S8x512x32x32, .f32⟩ : BufTy).Contents (Elt Ideal)) (x1 : (⟨S8x512x32, .i1⟩ : BufTy).Contents (Elt Ideal)) (x2 :
  (⟨S32x64, .f32⟩ : BufTy).Contents (Elt Ideal)) (x3 : (⟨S64, .f32⟩ : BufTy).Contents (Elt Ideal)) (x4 : (⟨S64x64, .f32⟩ : BufTy).Contents (Elt Ideal)) (x5 :
  (⟨S64, .f32⟩ : BufTy).Contents (Elt Ideal)) (x6 : (⟨S128x128, .f32⟩ : BufTy).Contents (Elt Ideal)) (x7 : (⟨S128, .f32⟩ : BufTy).Contents (Elt Ideal)) (x8 :
  (⟨S128x64, .f32⟩ : BufTy).Contents (Elt Ideal)) (x9 : (⟨S64, .f32⟩ : BufTy).Contents (Elt Ideal)) (x10 : (⟨S64x64, .f32⟩ : BufTy).Contents (Elt Ideal)) (x11 :
  (⟨S64, .f32⟩ : BufTy).Contents (Elt Ideal)) (x12 : (⟨S64x64, .f32⟩ : BufTy).Contents (Elt Ideal)) (x13 : (⟨S64, .f32⟩ : BufTy).Contents (Elt Ideal))

/-- The row of the group's features that the fifth layer meets. -/
theorem left_hidden (b : Fin 8) (r : Fin 512) (j k : Fin 64) : lidx_main_v37 (ix3 b r j) k = ix3 b r k := by
  funext d
  match d with
  | ⟨0, _⟩ => rfl
  | ⟨1, _⟩ => rfl
  | ⟨2, _⟩ => rfl

/-- The column of the fifth matrix. -/
theorem right_hidden (b : Fin 8) (r : Fin 512) (j k : Fin 64) : ridx_main_v37 (ix3 b r j) k = ix2 k j := by
  funext d
  match d with
  | ⟨0, _⟩ => rfl
  | ⟨1, _⟩ => rfl

/-- The entry of the fifth bias. -/
theorem bias_hidden (b : Fin 8) (r : Fin 512) (j : Fin 64) : idx_main_v38 (idx_main_v39 (ix3 b r j)) = ix1 j := by
  funext d
  match d with
  | ⟨0, _⟩ => rfl

/-- The fifth layer, with the rectifier. -/
theorem hidden_at (b : Fin 8) (r : Fin 512) (j : Fin 64) :
    val_main_v41 (F := Ideal) x0 x1 x2 x3 x4 x5 x6 x7 x8 x9 x10 x11 (ix3 b r j)
      = relu (dense (weightsOf x2 x3 x4 x5 x6 x7 x8 x9 x10 x11 x12 x13).W5 (weightsOf x2 x3 x4 x5 x6 x7 x8 x9 x10 x11 x12 x13).b5
          (feature (weightsOf x2 x3 x4 x5 x6 x7 x8 x9 x10 x11 x12 x13) (pointsOf x0 b r) (presentOf x1 b r)) j) := by
  rw [val_main_v41_apply, val_main_v40_apply, val_main_v37_apply, val_main_v39_apply, val_main_v38_apply,
    val_main_call4_v0_apply, val_main_call4_cst_apply, bias_hidden]
  simp only [left_hidden, right_hidden, feature_at x0 x1 x2 x3 x4 x5 x6 x7 x8 x9 x10 x11 x12 x13]
  generalize feature (weightsOf x2 x3 x4 x5 x6 x7 x8 x9 x10 x11 x12 x13) (pointsOf x0 b r) (presentOf x1 b r) = f
  show max ((∑ k, f k * x10 (ix2 k j)) + x11 (ix1 j)) (Ideal.ofBits .f32 0x00000000#32) = _
  rw [Ideal.ofBits_zero_f32]
  rfl

/-- The row of the hidden values that the sixth layer meets. -/
theorem left_head (b : Fin 8) (r : Fin 512) (j k : Fin 64) : lidx_main_v42 (ix3 b r j) k = ix3 b r k := by
  funext d
  match d with
  | ⟨0, _⟩ => rfl
  | ⟨1, _⟩ => rfl
  | ⟨2, _⟩ => rfl

/-- The column of the sixth matrix. -/
theorem right_head (b : Fin 8) (r : Fin 512) (j k : Fin 64) : ridx_main_v42 (ix3 b r j) k = ix2 k j := by
  funext d
  match d with
  | ⟨0, _⟩ => rfl
  | ⟨1, _⟩ => rfl

/-- The entry of the sixth bias. -/
theorem bias_head (b : Fin 8) (r : Fin 512) (j : Fin 64) : idx_main_v43 (idx_main_v44 (ix3 b r j)) = ix1 j := by
  funext d
  match d with
  | ⟨0, _⟩ => rfl

/-- The sixth layer. -/
theorem head_at (b : Fin 8) (r : Fin 512) (j : Fin 64) :
    val_main_v45 (F := Ideal) x0 x1 x2 x3 x4 x5 x6 x7 x8 x9 x10 x11 x12 x13 (ix3 b r j)
      = dense (weightsOf x2 x3 x4 x5 x6 x7 x8 x9 x10 x11 x12 x13).W6 (weightsOf x2 x3 x4 x5 x6 x7 x8 x9 x10 x11 x12 x13).b6
          (fun i => relu (dense (weightsOf x2 x3 x4 x5 x6 x7 x8 x9 x10 x11 x12 x13).W5
            (weightsOf x2 x3 x4 x5 x6 x7 x8 x9 x10 x11 x12 x13).b5
            (feature (weightsOf x2 x3 x4 x5 x6 x7 x8 x9 x10 x11 x12 x13) (pointsOf x0 b r) (presentOf x1 b r)) i)) j := by
  rw [val_main_v45_apply, val_main_v42_apply, val_main_v44_apply, val_main_v43_apply, bias_head]
  simp only [left_head, right_head, hidden_at x0 x1 x2 x3 x4 x5 x6 x7 x8 x9 x10 x11 x12 x13]
  rfl

/-- The flag of group `r` of batch entry `b`. -/
theorem flag_row (b : Fin 8) (r : Fin 512) (j : Fin 64) : idx_main_v46 (ix3 b r j) = ix3 b r 0 := by
  funext d
  match d with
  | ⟨0, _⟩ => rfl
  | ⟨1, _⟩ => rfl
  | ⟨2, _⟩ => rfl

/-- The result before the last reshape, at value `j` of group `r` of batch entry `b`. -/
theorem encode_at (b : Fin 8) (r : Fin 512) (j : Fin 64) :
    val_main_v47 (F := Ideal) x0 x1 x2 x3 x4 x5 x6 x7 x8 x9 x10 x11 x12 x13 (ix3 b r j)
      = encode (weightsOf x2 x3 x4 x5 x6 x7 x8 x9 x10 x11 x12 x13) (pointsOf x0 b r) (presentOf x1 b r) j := by
  rw [val_main_v47_apply, val_main_v46_apply, flag_row, valid_at, head_at]
  rfl

/-- Row `g` of the reshaped result is the row of its group. -/
theorem row_at (g : Fin 4096) (j : Fin 64) : idx_main_v48 (ix2 g j) = ix3 (batchOf g) (groupOf g) j := by
  funext d
  match d with
  | ⟨0, _⟩ => exact Fin.ext (by show (g.val * 64 + j.val) / 32768 = g.val / 512; omega)
  | ⟨1, _⟩ => exact Fin.ext (by show (g.val * 64 + j.val) / 64 % 512 = g.val % 512; omega)
  | ⟨2, _⟩ => exact Fin.ext (by show (g.val * 64 + j.val) % 64 = j.val; omega)

/-- The reference's result array is `Encoder.result` of its arguments. -/
theorem result_eq :
    val_main_v48 (F := Ideal) x0 x1 x2 x3 x4 x5 x6 x7 x8 x9 x10 x11 x12 x13
      = result x0 x1 x2 x3 x4 x5 x6 x7 x8 x9 x10 x11 x12 x13 := by
  funext i
  obtain ⟨g, j, rfl⟩ : ∃ (g : Fin 4096) (j : Fin 64), i = ix2 g j := ⟨i 0, i 1, by
    funext d
    match d with
    | ⟨0, _⟩ => rfl
    | ⟨1, _⟩ => rfl⟩
  exact (val_main_v48_apply x0 x1 x2 x3 x4 x5 x6 x7 x8 x9 x10 x11 x12 x13 (ix2 g j)).trans
    ((congrArg _ (row_at g j)).trans (encode_at x0 x1 x2 x3 x4 x5 x6 x7 x8 x9 x10 x11 x12 x13 (batchOf g) (groupOf g) j))

end Cert.ReferenceIdeal.Stages
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Returned
public import Idealize.ShloMosaic.Adequacy
public import Idealize.ShloMosaic.Init

@[expose] public section

noncomputable section

namespace Cert.Proof

open Idealize.ShloMosaic Idealize.SL.Sem Encoder

/-- The kernel ends with its arguments unchanged and every semaphore counter zero. -/
theorem kernel_quiescent : Cert.quiescent_Kernel := fun m ρ _ => Cert.Kernel.Gen.frame m ρ

/-- The kernel over the extended reals ends with its arguments unchanged and every semaphore counter zero. -/
theorem ideal_quiescent : Cert.quiescent_KernelIdeal := fun m ρ _ => Cert.KernelIdeal.Gen.frame m ρ

/-- The reference ends with its arguments unchanged; it declares no semaphore, so every counter is zero. -/
theorem reference_quiescent : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From arguments that agree, the kernel over the extended reals and the reference both end with `Encoder.result` of the
    arguments as their result. -/
theorem algebraic : Cert.algebraic_KernelIdeal_ReferenceIdeal := by
  intro m ρ m' ρ' _ hagree
  refine ⟨fun c => (Cert.KernelIdeal.Gen.dats m 0 c).arrAt 15 Cert.KernelIdeal.cfg0.N,
    (θ_run Cert.KernelIdeal.defs _ _).mono (fun _ h c => ⟨(h.2 c).1 15, h.1 c⟩)
      (θ_run_and (Cert.KernelIdeal.Gen.unchanged m ρ) (Cert.KernelIdeal.Gen.run_main m ρ)), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v48_eq, h0, h1, h2, h3, h4, h5, h6, h7, h8, h9, h10, h11, h12, h13]
  exact (Cert.ReferenceIdeal.Stages.result_eq _ _ _ _ _ _ _ _ _ _ _ _ _ _).trans (Cert.KernelIdeal.Final.final m c).symm

/-- The certificate's claim: the three frames, the preservation and the equality of the results. -/
theorem claim : Cert.Claim :=
  ⟨Cert.Kernel.Gen.facts, Cert.KernelIdeal.Gen.facts, Cert.ReferenceIdeal.Gen.facts, kernel_quiescent, ideal_quiescent,
    reference_quiescent, trivial, algebraic⟩

end Cert.Proof

end
